-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x32x32 : Shape := ⟨4, ![16, 256, 32, 32]⟩
abbrev S1024x256 : Shape := ⟨2, ![1024, 256]⟩
abbrev S16x256x1024 : Shape := ⟨3, ![16, 256, 1024]⟩
abbrev S256x1024 : Shape := ⟨2, ![256, 1024]⟩
abbrev S16x1x1024 : Shape := ⟨3, ![16, 1, 1024]⟩
abbrev S1x256x1024 : Shape := ⟨3, ![1, 256, 1024]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S16x1024 : Shape := ⟨2, ![16, 1024]⟩

abbrev nBuf : Space → Nat
  | .hbm => 8
  | .vmem => 9
  | .smem => 0
  | _ => 0

abbrev bufTy : (tb : Table) → Fin (tcTables nBuf tb) → BufTy
  | .hbm, ⟨0, _⟩ => ⟨S16x256x32x32, .f32⟩
  | .hbm, ⟨1, _⟩ => ⟨S1024x256, .f32⟩
  | .hbm, ⟨2, _⟩ => ⟨S16x256x1024, .f32⟩
  | .hbm, ⟨3, _⟩ => ⟨S256x1024, .f32⟩
  | .hbm, ⟨4, _⟩ => ⟨S16x256x1024, .f32⟩
  | .hbm, ⟨5, _⟩ => ⟨S16x1x1024, .i32⟩
  | .hbm, ⟨6, _⟩ => ⟨S16x256x32x32, .f32⟩
  | .hbm, ⟨7, _⟩ => ⟨S16x1024, .i32⟩
  | .local _ .vmem, ⟨0, _⟩ => ⟨S1x256x1024, .f32⟩
  | .local _ .vmem, ⟨1, _⟩ => ⟨S1x256x1024, .f32⟩
  | .local _ .vmem, ⟨2, _⟩ => ⟨S1024x256, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x1024, .i32⟩
  | .local _ .vmem, ⟨7, _⟩ => ⟨S1x1x1024, .i32⟩
  | .local _ .vmem, ⟨8, _⟩ => ⟨S1024x256, .f32⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x256x32x32 : Shape := ⟨4, ![16, 256, 32, 32]⟩
abbrev S1024x256 : Shape := ⟨2, ![1024, 256]⟩
abbrev S16x256x1024 : Shape := ⟨3, ![16, 256, 1024]⟩
abbrev S_ : Shape := ⟨0, ![]⟩
abbrev S16x1024 : Shape := ⟨2, ![16, 1024]⟩
abbrev S16x1x1024 : Shape := ⟨3, ![16, 1, 1024]⟩
abbrev S1024 : Shape := ⟨1, ![1024]⟩
abbrev S1024x1 : Shape := ⟨2, ![1024, 1]⟩
abbrev S16x1024x1024 : Shape := ⟨3, ![16, 1024, 1024]⟩
abbrev S16384 : Shape := ⟨1, ![16384]⟩
abbrev S16384x1 : Shape := ⟨2, ![16384, 1]⟩
abbrev S1 : Shape := ⟨1, ![1]⟩
abbrev S1x1 : Shape := ⟨2, ![1, 1]⟩
abbrev S16384x256 : Shape := ⟨2, ![16384, 256]⟩
abbrev S16x32x32x256 : Shape := ⟨4, ![16, 32, 32, 256]⟩

abbrev nBuf : Space → Nat
  | .hbm => 56
  | .vmem => 0
  | .smem => 0
  | _ => 0

abbrev bufTy : (tb : Table) → Fin (tcTables nBuf tb) → BufTy
  | .hbm, ⟨0, _⟩ => ⟨S16x256x32x32, .f32⟩
  | .hbm, ⟨1, _⟩ => ⟨S1024x256, .f32⟩
  | .hbm, ⟨2, _⟩ => ⟨S16x256x1024, .f32⟩
  | .hbm, ⟨3, _⟩ => ⟨S16x256x1024, .f32⟩
  | .hbm, ⟨4, _⟩ => ⟨S_, .f32⟩
  | .hbm, ⟨5, _⟩ => ⟨S16x1024, .f32⟩
  | .hbm, ⟨6, _⟩ => ⟨S16x1x1024, .f32⟩
  | .hbm, ⟨7, _⟩ => ⟨S16x1x1024, .f32⟩
  | .hbm, ⟨8, _⟩ => ⟨S_, .f32⟩
  | .hbm, ⟨9, _⟩ => ⟨S16x1x1024, .f32⟩
  | .hbm, ⟨10, _⟩ => ⟨S16x1x1024, .f32⟩
  | .hbm, ⟨11, _⟩ => ⟨S16x256x1024, .f32⟩
  | .hbm, ⟨12, _⟩ => ⟨S16x256x1024, .f32⟩
  | .hbm, ⟨13, _⟩ => ⟨S1024x256, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x1, .f32⟩
  | .hbm, ⟨18, _⟩ => ⟨S_, .f32⟩
  | .hbm, ⟨19, _⟩ => ⟨S1024x1, .f32⟩
  | .hbm, ⟨20, _⟩ => ⟨S1024x1, .f32⟩
  | .hbm, ⟨21, _⟩ => ⟨S1024x256, .f32⟩
  | .hbm, ⟨22, _⟩ => ⟨S1024x256, .f32⟩
  | .hbm, ⟨23, _⟩ => ⟨S16x1024x1024, .f32⟩
  | .hbm, ⟨24, _⟩ => ⟨S16x1024x1024, .i32⟩
  | .hbm, ⟨25, _⟩ => ⟨S_, .f32⟩
  | .hbm, ⟨26, _⟩ => ⟨S_, .i32⟩
  | .hbm, ⟨27, _⟩ => ⟨S16x1024, .f32⟩
  | .hbm, ⟨28, _⟩ => ⟨S16x1024, .i32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S1, .i32⟩
  | .hbm, ⟨39, _⟩ => ⟨S_, .i32⟩
  | .hbm, ⟨40, _⟩ => ⟨S16384x1, .i32⟩
  | .hbm, ⟨41, _⟩ => ⟨S16384x1, .i1⟩
  | .hbm, ⟨42, _⟩ => ⟨S1x1, .i32⟩
  | .hbm, ⟨43, _⟩ => ⟨S16384x1, .i32⟩
  | .hbm, ⟨44, _⟩ => ⟨S16384x1, .i1⟩
  | .hbm, ⟨45, _⟩ => ⟨S16384x1, .i1⟩
  | .hbm, ⟨46, _⟩ => ⟨S_, .i1⟩
  | .hbm, ⟨47, _⟩ => ⟨S16384, .i1⟩
  | .hbm, ⟨48, _⟩ => ⟨S16384x256, .f32⟩
  | .hbm, ⟨49, _⟩ => ⟨S16384x256, .i1⟩
  | .hbm, ⟨50, _⟩ => ⟨S_, .f32⟩
  | .hbm, ⟨51, _⟩ => ⟨S16384x256, .f32⟩
  | .hbm, ⟨52, _⟩ => ⟨S16384x256, .f32⟩
  | .hbm, ⟨53, _⟩ => ⟨S16x256x32x32, .f32⟩
  | .hbm, ⟨54, _⟩ => ⟨S16x32x32x256, .f32⟩
  | .hbm, ⟨55, _⟩ => ⟨S16x256x32x32, .f32⟩
  | _, _ => ⟨S16x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call2_v0 : Ref sig .tc := ⟨.hbm, 24, rfl⟩
abbrev main_call2_cst : Ref sig .tc := ⟨.hbm, 25, rfl⟩
abbrev main_call2_c : Ref sig .tc := ⟨.hbm, 26, rfl⟩
abbrev main_call2_v1_0 : Ref sig .tc := ⟨.hbm, 27, rfl⟩
abbrev main_v12 : Ref sig .tc := ⟨.hbm, 28, rfl⟩
abbrev main_v13 : Ref sig .tc := ⟨.hbm, 29, rfl⟩
abbrev main_call3_c : Ref sig .tc := ⟨.hbm, 30, rfl⟩
abbrev main_call3_v0 : Ref sig .tc := ⟨.hbm, 31, rfl⟩
abbrev main_call3_v1 : Ref sig .tc := ⟨.hbm, 32, rfl⟩
abbrev main_call3_c_0 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_call3_v5 : Ref sig .tc := ⟨.hbm, 37, rfl⟩
abbrev main_call3_c_1 : Ref sig .tc := ⟨.hbm, 38, rfl⟩
abbrev main_call3_c_2 : Ref sig .tc := ⟨.hbm, 39, rfl⟩
abbrev main_call3_v6 : Ref sig .tc := ⟨.hbm, 40, rfl⟩
abbrev main_call3_v7 : Ref sig .tc := ⟨.hbm, 41, rfl⟩
abbrev main_call3_v8 : Ref sig .tc := ⟨.hbm, 42, rfl⟩
abbrev main_call3_v9 : Ref sig .tc := ⟨.hbm, 43, rfl⟩
abbrev main_call3_v10 : Ref sig .tc := ⟨.hbm, 44, rfl⟩
abbrev main_call3_v11 : Ref sig .tc := ⟨.hbm, 45, rfl⟩
abbrev main_call3_c_3 : Ref sig .tc := ⟨.hbm, 46, rfl⟩
abbrev main_call3_v12 : Ref sig .tc := ⟨.hbm, 47, rfl⟩
abbrev main_call3_v13 : Ref sig .tc := ⟨.hbm, 48, rfl⟩
abbrev main_call3_v14 : Ref sig .tc := ⟨.hbm, 49, rfl⟩
abbrev main_call3_cst : Ref sig .tc := ⟨.hbm, 50, rfl⟩
abbrev main_call3_v15 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩

abbrev nD : Nat := 1
abbrev τ : Topo := Topo.v7x

variable {F : FTy → Type} [FloatOps F]
-- ==== Proof.Step.lean ====
/-
  What the kernel leaves after each grid point. The first point divides the bank into the scratch, and every later point finds it
  there; so after point `t` the scratch holds the divided bank (`scratch_eq`), the index output holds the index block of image
  `t`, and the value output the matching bank columns (`index_eq`, `value_eq`), each stated of the blocks the point reads.
-/
module

public import proofs.«01_k».proof.Proof.Gen.KernelIdeal.Frame
public import Idealize.ShloMosaic.Lib.Pipeline.Value
public import Idealize.ShloMosaic.Lib.Tactic

@[expose] public section

noncomputable section

namespace Cert.Match

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

section Cases
variable (c : Dev nD) (i : grid0.Coords)
  (a1 : Memref sig .tc .vmem S1x256x1024 .f32) (h1 : a1.IsWhole) (a2 : Memref sig .tc .vmem S1024x256 .f32) (h2 : a2.IsWhole)
  (a3 : Memref sig .tc .vmem S256x1024 .f32) (h3 : a3.IsWhole) (a4 : Memref sig .tc .vmem S1x256x1024 .f32) (h4 : a4.IsWhole)
  (a5 : Memref sig .tc .vmem S1x1x1024 .i32) (h5 : a5.IsWhole) (a6 : Memref sig .tc .vmem S1024x256 .f32) (h6 : a6.IsWhole)
  (x : Vec F S1x256x1024 .f32) (b : Vec F S1024x256 .f32) (t : Vec F S256x1024 .f32) (p : Vec F S1024x256 .f32)

/-- At the first point the scratch ends holding the divided bank. -/
theorem scratch_first (hc : cond0_0 i) :
    sout0_A_0 c i a1 h1 a2 h2 a3 h3 a4 h4 a5 h5 a6 h6 hc x b t = k0_pay2 b := by
  unfold sout0_A_0
  rw [View.read_writes_eq_canon _ _ _ (scover0_A_0 c i a1 h1 a2 h2 a3 h3 a4 h4 a5 h5 a6 h6 hc x b t)]
  unfold kernelRun0_A
  dsimp only
  sl_unfold_words
  simp only [View.readAt_eq_ld, h2.read_unread, View.ld_unit_zero (S := S1024x256) zero2]
  exact View.canon_unit_zero zero2 _ _

/-- At the first point the index output ends holding the index block of the image against the divided bank. -/
theorem index_first (hc : cond0_0 i) :
    out0_A_4 c i a1 h1 a2 h2 a3 h3 a4 h4 a5 h5 a6 h6 hc x b t = k0_pay4 x (k0_pay2 b) := by
  unfold out0_A_4
  rw [View.read_writes_eq_canon _ _ _ (cover0_A_4 c i a1 h1 a2 h2 a3 h3 a4 h4 a5 h5 a6 h6 hc x b t)]
  unfold kernelRun0_A
  dsimp only
  sl_unfold_words
  simp only [View.readCov_unit_zero (S := S1024x256) _ zero2, View.readAt_eq_ld, h1.read_unread,
    h2.read_unread, View.ld_unit_zero (S := S1024x256) zero2, View.ld_unit_zero (S := S1x256x1024) zero3]
  exact View.canon_unit_zero zero3 _ _

/-- At the first point the value output ends holding the columns picked by that index. -/
theorem value_first (hc : cond0_0 i) :
    out0_A_3 c i a1 h1 a2 h2 a3 h3 a4 h4 a5 h5 a6 h6 hc x b t = k0_pay1 (k0_pay5 x (k0_pay2 b) t) := by
  unfold out0_A_3
  rw [View.read_writes_eq_canon _ _ _ (cover0_A_3 c i a1 h1 a2 h2 a3 h3 a4 h4 a5 h5 a6 h6 hc x b t)]
  unfold kernelRun0_A
  dsimp only
  sl_unfold_words
  simp only [View.readCov_unit_zero (S := S1024x256) _ zero2, View.readAt_eq_ld, h1.read_unread,
    h2.read_unread, h3.read_unread, View.ld_unit_zero (S := S1024x256) zero2, View.ld_unit_zero (S := S256x1024) zero2,
    View.ld_unit_zero (S := S1x256x1024) zero3]
  exact View.canon_unit_zero zero3 _ _

/-- At a later point, where the scratch holds `p`, the index output ends holding the index block of the image against `p`. -/
theorem index_later (hc : ¬cond0_0 i) :
    out0_B_4 c i a1 h1 a2 h2 a3 h3 a4 h4 a5 h5 a6 h6 hc x b t p = k0_pay4 x p := by
  unfold out0_B_4
  rw [View.read_writes_eq_canon _ _ _ (cover0_B_4 c i a1 h1 a2 h2 a3 h3 a4 h4 a5 h5 a6 h6 hc x b t p)]
  unfold kernelRun0_B
  dsimp only
  sl_unfold_words
  simp only [View.readAt_eq_ld, h1.read_unread, h6.read_unread,
    View.ld_unit_zero (S := S1024x256) zero2, View.ld_unit_zero (S := S1x256x1024) zero3]
  exact View.canon_unit_zero zero3 _ _

/-- At a later point the value output ends holding the columns picked by that index. -/
theorem value_later (hc : ¬cond0_0 i) :
    out0_B_3 c i a1 h1 a2 h2 a3 h3 a4 h4 a5 h5 a6 h6 hc x b t p = k0_pay1 (k0_pay5 x p t) := by
  unfold out0_B_3
  rw [View.read_writes_eq_canon _ _ _ (cover0_B_3 c i a1 h1 a2 h2 a3 h3 a4 h4 a5 h5 a6 h6 hc x b t p)]
  unfold kernelRun0_B
  dsimp only
  sl_unfold_words
  simp only [View.readAt_eq_ld, h1.read_unread, h3.read_unread, h6.read_unread,
    View.ld_unit_zero (S := S1024x256) zero2, View.ld_unit_zero (S := S256x1024) zero2, View.ld_unit_zero (S := S1x256x1024) zero3]
  exact View.canon_unit_zero zero3 _ _

end Cases

/-- The block of the bank that a point reads is the same at every point: the whole bank. -/
theorem bankBlock_index : ∀ t : Fin cfg0.N, ∀ a : Fin 2, win0_1.index t a = 0 :=
  (by decide +kernel : ∀ t : Fin grid0.N, ∀ a : Fin 2, win0_1.index t a = 0)

/-- The block of the bank at a point is the whole bank. -/
theorem bankBlock_eq (c : Dev nD) (t : Fin cfg0.N) : iblk m c 1 t = V m c main_arg1 := by
  have hz : (fun a => win0_1.index t a * main_arg1.ty.shape.size a) = fun _ => 0 := funext fun a => by
    rw [bankBlock_index t a, Nat.zero_mul]
  exact Memref.read_access_unit_zero (Elt F) main_arg1 hz (fun a => by rw [congrFun hz a]; simp) (V m c main_arg1)

theorem transposedBlock_index : ∀ t : Fin cfg0.N, ∀ a : Fin 2, win0_2.index t a = 0 :=
  (by decide +kernel : ∀ t : Fin grid0.N, ∀ a : Fin 2, win0_2.index t a = 0)

/-- The block of the transposed bank at a point is the whole transposed bank. -/
theorem transposedBlock_eq (c : Dev nD) (t : Fin cfg0.N) : iblk m c 2 t = V m c main_v1 := by
  have hz : (fun a => win0_2.index t a * main_v1.ty.shape.size a) = fun _ => 0 := funext fun a => by
    rw [transposedBlock_index t a, Nat.zero_mul]
  exact Memref.read_access_unit_zero (Elt F) main_v1 hz (fun a => by rw [congrFun hz a]; simp) (V m c main_v1)

/-- After every point: the picked columns, the index block and the divided bank, of the image block the point reads. -/
theorem outs_eq (c : Dev nD) : ∀ (n : ℕ) (h : n < cfg0.N), outsAt0 m c n h =
    (k0_pay1 (k0_pay5 (iblk m c 0 ⟨n, h⟩) (k0_pay2 (V m c main_arg1)) (V m c main_v1)),
      k0_pay4 (iblk m c 0 ⟨n, h⟩) (k0_pay2 (V m c main_arg1)), k0_pay2 (V m c main_arg1))
  | 0, h => by
    rw [outsAt0_A m c ⟨0, h⟩ rfl, value_first, index_first, scratch_first, bankBlock_eq, transposedBlock_eq]
  | n + 1, h => by
    have hN : cfg0.N = 16 := N_0
    have hB : ¬(⟨n + 1, h⟩ : Fin cfg0.N).val % 16 = 0 := by dsimp only; omega
    have ih := outs_eq c n (Nat.lt_of_succ_lt h)
    rw [outsAt0_B m c ⟨n + 1, h⟩ hB, value_later, index_later, transposedBlock_eq]
    unfold sout0_B_0
    simp only [Nat.add_sub_cancel, ih]

end Cert.Match

end
-- ==== Proof.Array.lean ====
/-
  The two arrays the grid writes, whole: block `t` of each is written by point `t` and by no other, and the sixteen blocks fill the
  array. So each entry is the entry of what the step for its image leaves (`values_final`, `indices_final`), and the image block a
  point reads is that image (`imageBlock_apply`).
-/
module

public import proofs.«01_k».proof.Proof.Step
public import Idealize.ShloMosaic.Lib.Pointwise

@[expose] public section

noncomputable section

namespace Cert.Match

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The grid point that handles image `b`. -/
abbrev point (b : Fin 16) : Fin cfg0.N := ⟨b.val, lt_of_lt_of_eq b.isLt N_0.symm⟩

/-- The value array the grid leaves: at image `b`, the entry of the block point `b` leaves. -/
def values (c : Dev nD) : Buf (Elt F) ((c : Thread nD τ).loc main_v2_0) := fun i : S16x256x1024.Idx =>
  k0_pay1 (k0_pay5 (iblk m c 0 (point (i 0))) (k0_pay2 (V m c main_arg1)) (V m c main_v1)) (ix3 0 (i 1) (i 2))

/-- The index array the grid leaves: at image `b`, the entry of the block point `b` leaves. -/
def indices (c : Dev nD) : Buf (Elt F) ((c : Thread nD τ).loc main_v2_1) := fun i : S16x1x1024.Idx =>
  k0_pay4 (iblk m c 0 (point (i 0))) (k0_pay2 (V m c main_arg1)) (ix3 0 0 (i 2))

/-- The windows on the images and on both outputs are at block `t` of the first axis at point `t`. -/
theorem block_index : ∀ t : Fin cfg0.N,
    (win0_0.index t (0 : Fin 3) = t.val ∧ win0_0.index t (1 : Fin 3) = 0 ∧ win0_0.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ win0_3.flush t = true ∧ win0_4.flush t = true :=
  (by decide +kernel : ∀ t : Fin grid0.N, _)

/-- The block of images at point `b`, read at an entry: image `b`. -/
theorem imageBlock_apply (c : Dev nD) (b : Fin 16) (k : Fin 256) (n : Fin 1024) :
    (iblk m c 0 (point b) : Vec F S1x256x1024 .f32) (ix3 0 k n) = (V m c main_v0 : S16x256x1024.Idx → F .f32) (ix3 b k n) := by
  obtain ⟨⟨e0, e1, e2⟩, -⟩ := block_index (point b)
  show (V m c main_v0 : S16x256x1024.Idx → F .f32) (((cfg0.win 0).blk (point b)).view.emb (ix3 0 k n)) = _
  congr 1
  funext a
  match a with
  | ⟨0, _⟩ => exact Fin.ext (show win0_0.index (point b) (0 : Fin 3) * 1 + 1 * 0 = b.val by rw [e0]; simp)
  | ⟨1, _⟩ => exact Fin.ext (show win0_0.index (point b) (1 : Fin 3) * 256 + 1 * k.val = k.val by rw [e1]; simp)
  | ⟨2, _⟩ => exact Fin.ext (show win0_0.index (point b) (2 : Fin 3) * 1024 + 1 * n.val = n.val by rw [e2]; simp)

/-- Sixteen blocks, one per point, read as one value array through the block of point `t`: the block of point `t`. -/
theorem cut_values (f : Fin cfg0.N → Vec F S1x256x1024 .f32) (t : Fin cfg0.N) :
    (cfg0.win 3).cut (grid0.coords t) (f t)
      = ((cfg0.win 3).blk t).view.read (Elt F) (fun i : S16x256x1024.Idx => f (point (i 0)) (ix3 0 (i 1) (i 2))) := by
  obtain ⟨-, ⟨e0, e1, e2⟩, -⟩ := block_index t
  funext y
  have hy0 : (y 0).val < 1 := (y 0).isLt
  have ht : point (((cfg0.win 3).blk t).view.emb y 0) = t :=
    Fin.ext (show win0_3.index t (0 : Fin 3) * 1 + 1 * (y 0).val = t.val by rw [e0]; omega)
  show f t ((cfg0.win 3).xinj (grid0.coords t) y) = f (point (((cfg0.win 3).blk t).view.emb y 0)) _
  rw [ht]
  refine congrArg (f t) (funext fun a => ?_)
  match a with
  | ⟨0, _⟩ => exact Fin.ext (show (y 0).val = 0 by omega)
  | ⟨1, _⟩ => exact Fin.ext (show (y 1).val = win0_3.index t (1 : Fin 3) * 256 + 1 * (y 1).val by rw [e1]; omega)
  | ⟨2, _⟩ => exact Fin.ext (show (y 2).val = win0_3.index t (2 : Fin 3) * 1024 + 1 * (y 2).val by rw [e2]; omega)

/-- The same for the index array. -/
theorem cut_indices (f : Fin cfg0.N → Vec F S1x1x1024 .i32) (t : Fin cfg0.N) :
    (cfg0.win 4).cut (grid0.coords t) (f t)
      = ((cfg0.win 4).blk t).view.read (Elt F) (fun i : S16x1x1024.Idx => f (point (i 0)) (ix3 0 0 (i 2))) := by
  obtain ⟨-, -, ⟨e0, e1, e2⟩, -⟩ := block_index t
  funext y
  have hy0 : (y 0).val < 1 := (y 0).isLt
  have hy1 : (y 1).val < 1 := (y 1).isLt
  have ht : point (((cfg0.win 4).blk t).view.emb y 0) = t :=
    Fin.ext (show win0_4.index t (0 : Fin 3) * 1 + 1 * (y 0).val = t.val by rw [e0]; omega)
  show f t ((cfg0.win 4).xinj (grid0.coords t) y) = f (point (((cfg0.win 4).blk t).view.emb y 0)) _
  rw [ht]
  refine congrArg (f t) (funext fun a => ?_)
  match a with
  | ⟨0, _⟩ => exact Fin.ext (show (y 0).val = 0 by omega)
  | ⟨1, _⟩ => exact Fin.ext (show (y 1).val = 0 by omega)
  | ⟨2, _⟩ => exact Fin.ext (show (y 2).val = win0_4.index t (2 : Fin 3) * 1024 + 1 * (y 2).val by rw [e2]; omega)

/-- What point `t` writes to the value array is block `t` of `values`. -/
theorem values_flushed (c : Dev nD) (t : Fin cfg0.N) (_ : (cfg0.win 3).flush t = true) :
    (dats m 0 c).flushed 3 t = ((cfg0.win 3).blk t).view.read (Elt F) (values m c) := by
  show (cfg0.win 3).cut (grid0.coords t) ((dats m 0 c).after 3 t) = _
  rw [after0_3, outs_eq m c t.val t.isLt]
  exact cut_values (fun t => k0_pay1 (k0_pay5 (iblk m c 0 t) (k0_pay2 (V m c main_arg1)) (V m c main_v1))) t

/-- What point `t` writes to the index array is block `t` of `indices`. -/
theorem indices_flushed (c : Dev nD) (t : Fin cfg0.N) (_ : (cfg0.win 4).flush t = true) :
    (dats m 0 c).flushed 4 t = ((cfg0.win 4).blk t).view.read (Elt F) (indices m c) := by
  show (cfg0.win 4).cut (grid0.coords t) ((dats m 0 c).after 4 t) = _
  rw [after0_4, outs_eq m c t.val t.isLt]
  dsimp only
  exact cut_indices (fun t => k0_pay4 (iblk m c 0 t) (k0_pay2 (V m c main_arg1))) t

/-- The value array after the grid. -/
theorem values_final (c : Dev nD) : (dats m 0 c).arrAt 3 cfg0.N = values m c :=
  (dats m 0 c).arrAt_eq_of_cover 3 (values m c) (values_flushed m c) fun i => by
    obtain ⟨-, ⟨e0, e1, e2⟩, -, hf, -⟩ := block_index (point (i 0))
    refine ⟨point (i 0), hf, ?_⟩
    show i ∈ ((View.whole main_v2_0).slice (win0_3.rect (point (i 0)))).set
    rw [View.set_slice_whole, Rect.mem_set_unit]
    have h1 : (i 1).val < 256 := (i 1).isLt
    have h2 : (i 2).val < 1024 := (i 2).isLt
    intro a
    match a with
    | ⟨0, _⟩ => show win0_3.index (point (i 0)) (0 : Fin 3) * 1 ≤ (i 0).val ∧ (i 0).val < win0_3.index (point (i 0)) (0 : Fin 3) * 1 + 1
                rw [e0]; constructor <;> simp
    | ⟨1, _⟩ => show win0_3.index (point (i 0)) (1 : Fin 3) * 256 ≤ (i 1).val ∧ (i 1).val < win0_3.index (point (i 0)) (1 : Fin 3) * 256 + 256
                rw [e1]; omega
    | ⟨2, _⟩ => show win0_3.index (point (i 0)) (2 : Fin 3) * 1024 ≤ (i 2).val ∧ (i 2).val < win0_3.index (point (i 0)) (2 : Fin 3) * 1024 + 1024
                rw [e2]; omega

/-- The index array after the grid. -/
theorem indices_final (c : Dev nD) : (dats m 0 c).arrAt 4 cfg0.N = indices m c :=
  (dats m 0 c).arrAt_eq_of_cover 4 (indices m c) (indices_flushed m c) fun i => by
    obtain ⟨-, -, ⟨e0, e1, e2⟩, -, hf⟩ := block_index (point (i 0))
    refine ⟨point (i 0), hf, ?_⟩
    show i ∈ ((View.whole main_v2_1).slice (win0_4.rect (point (i 0)))).set
    rw [View.set_slice_whole, Rect.mem_set_unit]
    have h1 : (i 1).val < 1 := (i 1).isLt
    have h2 : (i 2).val < 1024 := (i 2).isLt
    intro a
    match a with
    | ⟨0, _⟩ => show win0_4.index (point (i 0)) (0 : Fin 3) * 1 ≤ (i 0).val ∧ (i 0).val < win0_4.index (point (i 0)) (0 : Fin 3) * 1 + 1
                rw [e0]; constructor <;> simp
    | ⟨1, _⟩ => show win0_4.index (point (i 0)) (1 : Fin 3) * 1 ≤ (i 1).val ∧ (i 1).val < win0_4.index (point (i 0)) (1 : Fin 3) * 1 + 1
                rw [e1]; omega
    | ⟨2, _⟩ => show win0_4.index (point (i 0)) (2 : Fin 3) * 1024 ≤ (i 2).val ∧ (i 2).val < win0_4.index (point (i 0)) (2 : Fin 3) * 1024 + 1024
                rw [e2]; omega

/-- The images the grid reads: the argument with its two image axes made one. -/
theorem images_eq (c : Dev nD) :
    V m c main_v0 = (shapeCast S16x256x1024 (m ((c : Thread nD τ).loc main_arg0) : Vec F S16x256x32x32 .f32)
      shapeCasts_S16x256x32x32_S16x256x1024 : Vec F S16x256x1024 .f32) := by
  entry_read
  rfl

/-- The transposed bank the grid reads: the second argument transposed. -/
theorem transposed_eq (c : Dev nD) :
    V m c main_v1 = (transpose S256x1024 [1, 0] (m ((c : Thread nD τ).loc main_arg1) : Vec F S1024x256 .f32)
      transposes_S1024x256_S256x1024_1_0 : Vec F S256x1024 .f32) := by
  unfold V V0
  simp only [hostOps0, List.flatten_cons, List.flatten_nil, List.append_nil]
  after_results

/-- The five windows are on five different arrays. -/
theorem arrays_injective : Function.Injective (Pipeline.arrRef (cfgs 0).spec) :=
  (by decide : Function.Injective (Pipeline.arrRef spec0))

/-- After the last host operation, the first result: the value array with its last axis made two. -/
theorem result_values (c : Dev nD) :
    Pipeline.afterTail₀ cfgs (dats m) 0 (V0 m) [hostOps1] c main_v3
      = (shapeCast S16x256x32x32 (values m c : Vec F S16x256x1024 .f32) shapeCasts_S16x256x1024_S16x256x32x32 : Vec F S16x256x32x32 .f32) := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v2_0) = values m c from
    (Pipeline.withArrays_arr (cfgs 0).spec arrays_injective c (V0 m c) _ 3).trans (values_final m c)]
  rfl

/-- After the last host operation, the second result: the index array without its unit axis. -/
theorem result_indices (c : Dev nD) :
    Pipeline.afterTail₀ cfgs (dats m) 0 (V0 m) [hostOps1] c main_v4
      = (shapeCast S16x1024 (indices m c : Vec F S16x1x1024 .i32) shapeCasts_S16x1x1024_S16x1024 : Vec F S16x1024 .i32) := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v2_1) = indices m c from
    (Pipeline.withArrays_arr (cfgs 0).spec arrays_injective c (V0 m c) _ 4).trans (indices_final m c)]
  rfl

end Cert.Match

end
-- ==== Proof.Best.lean ====
/-
  The mathematics of a best match, apart from any program: cosine similarities of one vector with the 1024 rows of a bank, the
  row that is best, and the three ways the two programs find and use it.

  * `unit v` is `v` divided by the larger of its Euclidean length and a small constant; `sim p x` the inner product of the two
    divided vectors; `IsBest f k` says that `k` is the least index where `f` is largest, and `best f` is that index.
  * `fold_max_eq`, `fold_minsi_eq`: the largest value by a maximum over all rows, then the least row number that holds it by a
    signed minimum, is the best index.
  * `argmax_foldl`: a left fold of the (value, index) comparison over a list that holds exactly the pairs of `f` ends at the
    best index.
  * `onehot_sum`: the sum of a row against the indicator of one index is that entry.
-/
module

public import Idealize.ShloMosaic.Lib.Pointwise
public import Idealize.ShloMosaic.Lib.WordCmp

@[expose] public section

noncomputable section

namespace Cert.Match

open Idealize.ShloMosaic

/-- A vector of 256 extended reals divided by the larger of its Euclidean length and the number the word `0x2B8CBCCC` spells. -/
def unit (v : Fin 256 → EReal) (c : Fin 256) : EReal :=
  Ideal.div (v c) (max (Ideal.sqrt (∑ a, v a * v a)) (Ideal.ofBits .f32 730643660#32))

/-- The cosine similarity of two vectors: the inner product of what `unit` makes of them. -/
def sim (p x : Fin 256 → EReal) : EReal := ∑ c, unit p c * unit x c

/-- The similarity does not depend on the order of the factors of each product. -/
theorem sim_comm (p x : Fin 256 → EReal) : ∑ c, unit x c * unit p c = sim p x :=
  Finset.sum_congr rfl fun _ _ => mul_comm _ _

/-- `k` is the least index at which `f` takes its largest value. -/
def IsBest (f : Fin 1024 → EReal) (k : Fin 1024) : Prop := (∀ j, f j ≤ f k) ∧ ∀ j, f j = f k → k ≤ j

/-- A family of 1024 extended reals has a least index at which it is largest. -/
theorem exists_isBest (f : Fin 1024 → EReal) : ∃ k, IsBest f k := by
  obtain ⟨k₀, -, h₀⟩ := Finset.exists_max_image Finset.univ f ⟨0, Finset.mem_univ 0⟩
  have hne : (Finset.univ.filter fun k => f k = f k₀).Nonempty := ⟨k₀, by simp⟩
  have hmem := Finset.min'_mem _ hne
  have he : f ((Finset.univ.filter fun k => f k = f k₀).min' hne) = f k₀ := (Finset.mem_filter.1 hmem).2
  refine ⟨(Finset.univ.filter fun k => f k = f k₀).min' hne, fun j => (h₀ j (Finset.mem_univ j)).trans_eq he.symm, fun j hj => ?_⟩
  exact Finset.min'_le _ _ (Finset.mem_filter.2 ⟨Finset.mem_univ j, hj.trans he⟩)

/-- The least index at which `f` is largest. -/
def best (f : Fin 1024 → EReal) : Fin 1024 := (exists_isBest f).choose

theorem isBest_best (f : Fin 1024 → EReal) : IsBest f (best f) := (exists_isBest f).choose_spec

/-- Only one index is best. -/
theorem IsBest.unique {f : Fin 1024 → EReal} {k l : Fin 1024} (hk : IsBest f k) (hl : IsBest f l) : k = l := by
  have e : f k = f l := le_antisymm (hl.1 k) (hk.1 l)
  exact le_antisymm (hk.2 l e.symm) (hl.2 k e)

/-- An index that is best is the one `best` picks. -/
theorem IsBest.eq_best {f : Fin 1024 → EReal} {k : Fin 1024} (hk : IsBest f k) : k = best f := hk.unique (isBest_best f)

/-- The word `0xFF800000` spells minus infinity. -/
theorem ofBits_negInf : Ideal.ofBits .f32 4286578688#32 = ⊥ := by
  simp [Ideal.ofBits, Ideal.ieee]

/-- The maximum of all values from minus infinity is the value at the best index. -/
theorem fold_max_eq (f : Fin 1024 → EReal) :
    Finset.fold max (Ideal.ofBits .f32 4286578688#32) f Finset.univ = f (best f) := by
  rw [ofBits_negInf]
  refine le_antisymm (Finset.fold_max_le _ |>.2 ⟨bot_le, fun j _ => (isBest_best f).1 j⟩) ?_
  exact Finset.le_fold_max _ |>.2 (Or.inr ⟨best f, Finset.mem_univ _, le_rfl⟩)

/-- A row number, a 32-bit word, read as a signed integer. -/
theorem toInt_ofNat (k : Fin 1024) : (BitVec.ofNat 32 k.val).toInt = (k.val : Int) :=
  WordCmp.toInt_ofNat_of_lt (by have := k.isLt; omega)

/-- The signed minimum of two words is at most each, and is one of the two. -/
theorem minsi_spec (a b : BitVec 32) :
    (IntOp.minsi a b).toInt ≤ a.toInt ∧ (IntOp.minsi a b).toInt ≤ b.toInt ∧ (IntOp.minsi a b = a ∨ IntOp.minsi a b = b) := by
  unfold IntOp.minsi
  by_cases h : a.slt b
  · have := BitVec.slt_iff_toInt_lt.1 h
    rw [if_pos h]; exact ⟨le_rfl, by omega, Or.inl rfl⟩
  · have := (not_congr BitVec.slt_iff_toInt_lt).1 h
    rw [if_neg h]; exact ⟨by omega, le_rfl, Or.inr rfl⟩

/-- A signed minimum over a set of rows: it is at most the start and every value, and it is the start or one of the values. -/
theorem fold_minsi_spec (b : BitVec 32) (g : Fin 1024 → BitVec 32) (S : Finset (Fin 1024)) :
    (∀ k ∈ S, (Finset.fold IntOp.minsi b g S).toInt ≤ (g k).toInt)
      ∧ (Finset.fold IntOp.minsi b g S = b ∨ ∃ k ∈ S, Finset.fold IntOp.minsi b g S = g k) := by
  classical
  induction S using Finset.induction_on with
  | empty => exact ⟨by simp, Or.inl (by simp)⟩
  | insert a S ha ih =>
    rw [Finset.fold_insert ha]
    obtain ⟨h1, h2, h3⟩ := minsi_spec (g a) (Finset.fold IntOp.minsi b g S)
    refine ⟨fun k hk => ?_, ?_⟩
    · rcases Finset.mem_insert.1 hk with rfl | hk
      · exact h1
      · exact h2.trans (ih.1 k hk)
    · rcases h3 with h3 | h3 <;> rw [h3]
      · exact Or.inr ⟨a, Finset.mem_insert_self _ _, rfl⟩
      · rcases ih.2 with h | ⟨k, hk, h⟩
        · exact Or.inl h
        · exact Or.inr ⟨k, Finset.mem_insert_of_mem hk, h⟩

/-- The signed minimum, over all rows, of the row number where the value is the largest one and of 1024 elsewhere, is the best
    index. -/
theorem fold_minsi_eq (f : Fin 1024 → EReal) :
    Finset.fold IntOp.minsi 2147483647#32
        (fun k : Fin 1024 => if f k = f (best f) then BitVec.ofNat 32 k.val else 1024#32) Finset.univ
      = BitVec.ofNat 32 (best f).val := by
  obtain ⟨h1, h2⟩ := fold_minsi_spec 2147483647#32
    (fun k : Fin 1024 => if f k = f (best f) then BitVec.ofNat 32 k.val else 1024#32) Finset.univ
  have hb := h1 (best f) (Finset.mem_univ _)
  simp only [if_true, toInt_ofNat] at hb
  have hlt := (best f).isLt
  rcases h2 with h | ⟨k, -, h⟩
  · rw [h] at hb
    have : (2147483647#32 : BitVec 32).toInt = 2147483647 := by decide
    omega
  · rw [h] at hb ⊢
    by_cases hk : f k = f (best f)
    · simp only [hk, if_true, toInt_ofNat] at hb ⊢
      have hle := Fin.le_def.1 ((isBest_best f).2 k hk)
      have : k.val = (best f).val := by omega
      rw [this]
    · simp only [hk, if_false] at hb
      have : (1024#32 : BitVec 32).toInt = 1024 := by decide
      omega

/-- The pair `p` is at least as good as `q`: its value is larger, or the values are equal and its index is not above. -/
def Beats (p q : EReal × BitVec 32) : Prop := q.1 < p.1 ∨ q.1 = p.1 ∧ p.2.toInt ≤ q.2.toInt

theorem Beats.refl (p : EReal × BitVec 32) : Beats p p := Or.inr ⟨rfl, le_rfl⟩

theorem Beats.trans {p q r : EReal × BitVec 32} (h : Beats p q) (h' : Beats q r) : Beats p r := by
  unfold Beats at *
  rcases h with h | ⟨h, i⟩ <;> rcases h' with h' | ⟨h', i'⟩
  · exact Or.inl (h'.trans h)
  · exact Or.inl (h' ▸ h)
  · exact Or.inl (h ▸ h')
  · exact Or.inr ⟨h'.trans h, i.trans i'⟩

/-- A left fold of an operation that always returns one of its two arguments, the one that is as good as both, returns an
    element as good as every other. -/
theorem foldl_spec (op : EReal × BitVec 32 → EReal × BitVec 32 → EReal × BitVec 32)
    (hop : ∀ p q, (op p q = p ∨ op p q = q) ∧ Beats (op p q) p ∧ Beats (op p q) q)
    (L : List (EReal × BitVec 32)) (z : EReal × BitVec 32) :
    (L.foldl op z = z ∨ L.foldl op z ∈ L) ∧ Beats (L.foldl op z) z ∧ ∀ q ∈ L, Beats (L.foldl op z) q := by
  induction L generalizing z with
  | nil => exact ⟨Or.inl rfl, Beats.refl z, by simp⟩
  | cons a L ih =>
    obtain ⟨h1, h2, h3⟩ := hop z a
    obtain ⟨i1, i2, i3⟩ := ih (op z a)
    rw [List.foldl_cons]
    refine ⟨?_, i2.trans h2, fun q hq => ?_⟩
    · rcases i1 with i1 | i1
      · rcases h1 with h1 | h1
        · exact Or.inl (i1.trans h1)
        · exact Or.inr (by rw [i1, h1]; exact List.mem_cons_self)
      · exact Or.inr (List.mem_cons_of_mem _ i1)
    · rcases List.mem_cons.1 hq with rfl | hq
      · exact i2.trans h3
      · exact i3 q hq

/-- A left fold of such an operation, from minus infinity at index 0 over a list whose elements are exactly the pairs of a value
    `f k` and its row number `k`, ends at the best index. -/
theorem argmax_foldl (op : EReal × BitVec 32 → EReal × BitVec 32 → EReal × BitVec 32)
    (hop : ∀ p q, (op p q = p ∨ op p q = q) ∧ Beats (op p q) p ∧ Beats (op p q) q)
    (f : Fin 1024 → EReal) (L : List (EReal × BitVec 32))
    (hL : ∀ q, q ∈ L ↔ ∃ k : Fin 1024, q = (f k, BitVec.ofNat 32 k.val)) :
    (L.foldl op (⊥, 0#32)).2 = BitVec.ofNat 32 (best f).val := by
  obtain ⟨h1, -, h3⟩ := foldl_spec op hop L (⊥, 0#32)
  have hk : ∃ k : Fin 1024, L.foldl op (⊥, 0#32) = (f k, BitVec.ofNat 32 k.val) := by
    rcases h1 with h1 | h1
    · refine ⟨0, ?_⟩
      rw [h1]
      have := h3 _ ((hL _).2 ⟨0, rfl⟩)
      rw [h1] at this
      rcases this with h | ⟨h, -⟩
      · exact absurd h not_lt_bot
      · exact Prod.ext h.symm rfl
    · exact (hL _).1 h1
  obtain ⟨k, hk⟩ := hk
  rw [hk] at h3 ⊢
  have hb : IsBest f k := by
    refine ⟨fun j => ?_, fun j hj => ?_⟩
    · rcases h3 _ ((hL _).2 ⟨j, rfl⟩) with h | ⟨h, -⟩
      · exact h.le
      · exact h.le
    · rcases h3 _ ((hL _).2 ⟨j, rfl⟩) with h | ⟨-, h⟩
      · exact absurd h (by simp [hj])
      · simp only [toInt_ofNat] at h
        exact Fin.le_def.2 (by omega)
  rw [hb.eq_best]

/-- Row numbers are equal as words exactly when they are equal. -/
theorem ofNat_inj (k l : Fin 1024) : BitVec.ofNat 32 k.val = BitVec.ofNat 32 l.val ↔ k = l := by
  refine ⟨fun h => Fin.ext ?_, fun h => by rw [h]⟩
  have h' := congrArg BitVec.toNat h
  have := k.isLt; have := l.isLt
  simp only [BitVec.toNat_ofNat] at h'
  omega

/-- The indicator of one row number, as a number: one at that row and zero elsewhere. -/
theorem indicator_eq (k l : Fin 1024) :
    (FloatOps.sitofp (F := Ideal) .f32 (BitVec.setWidth 32 (IntOp.cmpi .eq (BitVec.ofNat 32 k.val) (BitVec.ofNat 32 l.val))) : EReal)
      = if k = l then 1 else 0 := by
  show (((BitVec.setWidth 32 (IntOp.cmpi .eq (BitVec.ofNat 32 k.val) (BitVec.ofNat 32 l.val))).toInt : ℝ) : EReal) = _
  by_cases h : k = l
  · subst h
    simp [IntOp.cmpi]
  · have := (ofNat_inj k l).not.2 h
    simp [IntOp.cmpi, beq_eq_false_iff_ne.2 this, h]

/-- The sum of a row against the indicator of one index is the row's entry there. -/
theorem onehot_sum (g : Fin 1024 → EReal) (l : Fin 1024) :
    (∑ k, g k * (FloatOps.sitofp (F := Ideal) .f32
        (BitVec.setWidth 32 (IntOp.cmpi .eq (BitVec.ofNat 32 k.val) (BitVec.ofNat 32 l.val))) : EReal)) = g l := by
  simp only [indicator_eq]
  simp

end Cert.Match

end
-- ==== Proof.Block.lean ====
/-
  One grid step of the kernel, entry by entry over extended reals: what the printed stores hold.

  * `normed_apply`: the divided bank, row `k`, is `unit` of the bank's row `k`.
  * `index_apply`: the stored index row at column `n` is the best row for column `n` of the image.
  * `picked_apply`: the product of the transposed bank with the indicator of the index is the transposed bank's column at the
    best index.
-/
module

public import proofs.«01_k».proof.Proof.Gen.KernelIdeal.Skeleton
public import proofs.«01_k».proof.Proof.Best

@[expose] public section

noncomputable section

namespace Cert.Match

open Idealize.ShloMosaic
open Cert.KernelIdeal (S1024x256 S256x1024 S1x256x1024)
open Cert.KernelIdeal.Gen (k0_pay1 k0_pay2 k0_pay3 k0_pay4 k0_pay5)

/-- The divided bank at row `k`: `unit` of the bank's row. -/
theorem normed_apply (v : Vec Ideal S1024x256 .f32) (k : Fin 1024) (c : Fin 256) :
    k0_pay2 v (ix2 k c) = unit (fun a => v (ix2 k a)) c := by
  pointwise [k0_pay2]
  rfl

/-- The stored index row, where the scratch holds the divided bank `b`: at column `n` it is the best row for the image's column. -/
theorem index_apply (b : Vec Ideal S1024x256 .f32) (x : Vec Ideal S1x256x1024 .f32) (n : Fin 1024) :
    k0_pay3 x (k0_pay2 b) (ix2 0 n)
      = BitVec.ofNat 32 (best fun k => sim (fun c => b (ix2 k c)) fun c => x (ix3 0 c n)).val := by
  rw [← fold_minsi_eq]
  simp only [← fold_max_eq fun k => sim (fun c => b (ix2 k c)) fun c => x (ix3 0 c n)]
  pointwise [k0_pay3]
  simp only [normed_apply]
  rfl

/-- The stored index block: the same as the row. -/
theorem indexBlock_apply (b : Vec Ideal S1024x256 .f32) (x : Vec Ideal S1x256x1024 .f32) (n : Fin 1024) :
    k0_pay4 x (k0_pay2 b) (ix3 0 0 n)
      = BitVec.ofNat 32 (best fun k => sim (fun c => b (ix2 k c)) fun c => x (ix3 0 c n)).val := by
  rw [← index_apply]
  pointwise [k0_pay4]

/-- The product of a 256 by 1024 matrix with the indicator of the index row: the matrix's column at the best index. -/
theorem picked_apply (b : Vec Ideal S1024x256 .f32) (x : Vec Ideal S1x256x1024 .f32) (t : Vec Ideal S256x1024 .f32)
    (c : Fin 256) (n : Fin 1024) :
    k0_pay1 (k0_pay5 x (k0_pay2 b) t) (ix3 0 c n)
      = t (ix2 c (best fun k => sim (fun c => b (ix2 k c)) fun c => x (ix3 0 c n))) := by
  rw [← onehot_sum fun k => t (ix2 c k)]
  pointwise [k0_pay1, k0_pay5]
  simp only [index_apply]

end Cert.Match

end
-- ==== Proof.Spec.lean ====
/-
  What both programs compute, in one place: for each pixel of each image the bank row most similar to the pixel's channel vector,
  by number (`matchIndex`) and by its entries (`matchRow`).
-/
module

public import proofs.«01_k».proof.Proof.Gen.KernelIdeal.Skeleton
public import proofs.«01_k».proof.Proof.Best

@[expose] public section

noncomputable section

namespace Cert.Match

open Idealize.ShloMosaic
open Cert.KernelIdeal (S1024x256 S16x256x32x32 S16x1024)

/-- The row and the column of a pixel numbered `n`, row by row. -/
def rowOf (n : Fin 1024) : Fin 32 := ⟨n.val / 32, by have := n.isLt; omega⟩
def colOf (n : Fin 1024) : Fin 32 := ⟨n.val % 32, by omega⟩

/-- The number of the pixel at row `h`, column `w`. -/
def pixel (h w : Fin 32) : Fin 1024 := ⟨h.val * 32 + w.val, by have := h.isLt; have := w.isLt; omega⟩

theorem rowOf_pixel (h w : Fin 32) : rowOf (pixel h w) = h :=
  Fin.ext (by have := w.isLt; show (h.val * 32 + w.val) / 32 = h.val; omega)

theorem colOf_pixel (h w : Fin 32) : colOf (pixel h w) = w :=
  Fin.ext (by have := w.isLt; show (h.val * 32 + w.val) % 32 = w.val; omega)

/-- The bank row most similar to pixel `n` of image `b`, the least such row. -/
def pick (x : Vec Ideal S16x256x32x32 .f32) (bank : Vec Ideal S1024x256 .f32) (b : Fin 16) (n : Fin 1024) : Fin 1024 :=
  best fun k => sim (fun c => bank (ix2 k c)) fun c => x (ix4 b c (rowOf n) (colOf n))

/-- The numbers of the matching rows. -/
def matchIndex (x : Vec Ideal S16x256x32x32 .f32) (bank : Vec Ideal S1024x256 .f32) : IVec S16x1024 32 := fun i =>
  BitVec.ofNat 32 (pick x bank (i 0) (i 1)).val

/-- The entries of the matching rows: channel `c` at a pixel is entry `c` of the pixel's row. -/
def matchRow (x : Vec Ideal S16x256x32x32 .f32) (bank : Vec Ideal S1024x256 .f32) : Vec Ideal S16x256x32x32 .f32 := fun i =>
  bank (ix2 (pick x bank (i 0) (pixel (i 2) (i 3))) (i 1))

end Cert.Match

end
-- ==== Proof.Kernel.lean ====
/-
  The kernel's two results over extended reals: the entries and the numbers of the matching rows.
-/
module

public import proofs.«01_k».proof.Proof.Array
public import proofs.«01_k».proof.Proof.Block
public import proofs.«01_k».proof.Proof.Spec

@[expose] public section

noncomputable section

namespace Cert.Match

open Idealize.ShloMosaic Idealize.ShloMosaic.TcCoe Idealize.SL.Sem
open Cert.KernelIdeal Cert.KernelIdeal.Gen

variable (m : (ℓ : Loc nD τ sig) → Buf (Elt Ideal) ℓ)

/-- The two arguments, as arrays. -/
abbrev imagesArg (c : Dev nD) : Vec Ideal S16x256x32x32 .f32 := m ((c : Thread nD τ).loc main_arg0)
abbrev bankArg (c : Dev nD) : Vec Ideal S1024x256 .f32 := m ((c : Thread nD τ).loc main_arg1)

/-- An image block at a pixel: the argument at the pixel's row and column. -/
theorem image_entry (c : Dev nD) (b : Fin 16) (k : Fin 256) (n : Fin 1024) :
    (iblk m c 0 (point b) : Vec Ideal S1x256x1024 .f32) (ix3 0 k n) = imagesArg m c (ix4 b k (rowOf n) (colOf n)) := by
  rw [imageBlock_apply, images_eq]
  pointwise
  rfl

/-- The bank the grid reads is the second argument. -/
theorem bank_eq (c : Dev nD) : (V m c main_arg1 : Vec Ideal S1024x256 .f32) = bankArg m c := V_main_arg1 m c

/-- An entry of the transposed bank the grid reads: the bank's, its coordinates exchanged. -/
theorem transposed_entry (c : Dev nD) (k : Fin 256) (l : Fin 1024) :
    (V m c main_v1 : Vec Ideal S256x1024 .f32) (ix2 k l) = bankArg m c (ix2 l k) := by
  rw [transposed_eq]
  pointwise

/-- The value array at an entry: the bank's entry at the picked row. -/
theorem values_entry (c : Dev nD) (b : Fin 16) (k : Fin 256) (n : Fin 1024) :
    (values m c : Vec Ideal S16x256x1024 .f32) (ix3 b k n) = bankArg m c (ix2 (pick (imagesArg m c) (bankArg m c) b n) k) := by
  show k0_pay1 (k0_pay5 (iblk m c 0 (point b)) (k0_pay2 (V m c main_arg1)) (V m c main_v1)) (ix3 0 k n) = _
  refine (picked_apply (V m c main_arg1) (iblk m c 0 (point b)) (V m c main_v1) k n).trans ?_
  rw [transposed_entry, bank_eq]
  simp only [image_entry]
  rfl

/-- The index array at an entry: the picked row's number. -/
theorem indices_entry (c : Dev nD) (b : Fin 16) (n : Fin 1024) :
    (indices m c : Vec Ideal S16x1x1024 .i32) (ix3 b 0 n) = BitVec.ofNat 32 (pick (imagesArg m c) (bankArg m c) b n).val := by
  refine (show (indices m c : Vec Ideal S16x1x1024 .i32) (ix3 b 0 n)
    = k0_pay4 (iblk m c 0 (point b)) (k0_pay2 (V m c main_arg1)) (ix3 0 0 n) from rfl).trans ?_
  refine (indexBlock_apply (V m c main_arg1) (iblk m c 0 (point b)) n).trans ?_
  rw [bank_eq]
  simp only [image_entry]
  rfl

/-- The kernel's first result: the entries of the matching rows. -/
theorem kernel_values (c : Dev nD) :
    (shapeCast S16x256x32x32 (values m c : Vec Ideal S16x256x1024 .f32) shapeCasts_S16x256x1024_S16x256x32x32
      : Vec Ideal S16x256x32x32 .f32) = matchRow (imagesArg m c) (bankArg m c) := by
  funext i
  pointwise
  exact values_entry m c (i 0) (i 1) (pixel (i 2) (i 3))

/-- The kernel's second result: the numbers of the matching rows. -/
theorem kernel_indices (c : Dev nD) :
    (shapeCast S16x1024 (indices m c : Vec Ideal S16x1x1024 .i32) shapeCasts_S16x1x1024_S16x1024 : Vec Ideal S16x1024 .i32)
      = matchIndex (imagesArg m c) (bankArg m c) := by
  funext i
  pointwise
  exact indices_entry m c (i 0) (i 1)

end Cert.Match

end
-- ==== Proof.RefIndex.lean ====
/-
  The reference's row number: its reduction of (similarity, row number) pairs ends at the best row of each pixel.
-/
module

public import proofs.«01_k».proof.Proof.Gen.ReferenceIdeal
public import proofs.«01_k».proof.Proof.Best

@[expose] public section

noncomputable section

namespace Cert.Match

open Idealize.ShloMosaic Idealize.SL.Sem
open Cert.ReferenceIdeal Cert.ReferenceIdeal.Gen

/-- The indices that a reduction of (value, index) pairs ends at, one for each group. -/
def argIndex {s t u : Shape} {axes : List (Fin s.rank)} (op : EReal × BitVec 32 → EReal × BitVec 32 → EReal × BitVec 32)
    (x : FVec Ideal s .f32) (y : IVec s 32) (ix : FVec Ideal u .f32) (iy : IVec u 32) (h : s.ReducesTo axes t) (hu : 0 < u.numel) :
    IVec t 32 := fun j => (Host.argReduce (F := Ideal) op x y ix iy h hu j).2

/-- The second components of the reduction's pairs are those indices. -/
theorem argIndex_eq {s t u : Shape} {axes : List (Fin s.rank)} (op : EReal × BitVec 32 → EReal × BitVec 32 → EReal × BitVec 32)
    (x : FVec Ideal s .f32) (y : IVec s 32) (ix : FVec Ideal u .f32) (iy : IVec u 32) (h : s.ReducesTo axes t) (hu : 0 < u.numel) :
    (fun j => (Host.argReduce (F := Ideal) op x y ix iy h hu j).2) = argIndex op x y ix iy h hu := rfl

/-- Equal values have equal indices. -/
theorem argIndex_congr {s t u : Shape} {axes : List (Fin s.rank)} (op : EReal × BitVec 32 → EReal × BitVec 32 → EReal × BitVec 32)
    {x x' : FVec Ideal s .f32} (y : IVec s 32) (ix : FVec Ideal u .f32) (iy : IVec u 32) (h : s.ReducesTo axes t) (hu : 0 < u.numel)
    (e : x = x') : argIndex op x y ix iy h hu = argIndex op x' y ix iy h hu := by rw [e]

/-- The row with the largest similarity, by the reference's reduction of (value, index) pairs. -/
def refIndex (s : FVec Ideal S16x1024x1024 .f32) : IVec S16x1024 32 :=
  argIndex (reducer_argmax_f32_i32 (F := Ideal)) s (iotaInDim S16x1024x1024 32 2) (constant S_ .f32 0xFF800000#32) (constantI S_ 32 0#32)
    reducesTo_S16x1024x1024_S16x1024_d2 h_S_

/-- The reference's comparison returns one of its two pairs, the one at least as good as both. -/
theorem reducer_spec (p q : EReal × BitVec 32) :
    (reducer_argmax_f32_i32 (F := Ideal) p q = p ∨ reducer_argmax_f32_i32 (F := Ideal) p q = q)
      ∧ Beats (reducer_argmax_f32_i32 (F := Ideal) p q) p ∧ Beats (reducer_argmax_f32_i32 (F := Ideal) p q) q := by
  obtain ⟨a, i⟩ := p
  obtain ⟨b, j⟩ := q
  have e : reducer_argmax_f32_i32 (F := Ideal) (a, i) (b, j)
      = (if b < a then a else b, if b < a ∨ a = b ∧ i.toInt < j.toInt then i else j) := by
    simp only [reducer_argmax_f32_i32, Ideal.cmpf_def, Ideal.cmp, WordCmp.cmpi_slt_eq, WordCmp.andi_ofBool, WordCmp.ori_ofBool, Scalar.select,
      WordCmp.ofBool_eq_one_iff', Bool.or_eq_true, Bool.and_eq_true, decide_eq_true_eq, ne_eq, not_true_eq_false, or_false]
  rw [e]
  unfold Beats
  rcases lt_trichotomy b a with h | h | h
  · simp [h]
  · subst h
    by_cases hij : i.toInt < j.toInt
    · simp [hij, le_of_lt hij]
    · simp [hij]; omega
  · simp [h, not_lt.2 h.le, h.ne]

/-- An entry of the array of similarities is in the group of a pixel exactly when its first two coordinates are the pixel's. -/
theorem drop_eq_iff (i : S16x1024x1024.Idx) (b : Fin 16) (n : Fin 1024) :
    reducesTo_S16x1024x1024_S16x1024_d2.drop i = ix2 b n ↔ ∃ k : Fin 1024, i = ix3 b n k := by
  have h0 : (reducesTo_S16x1024x1024_S16x1024_d2.drop i 0).val = (i 0).val := rfl
  have h1 : (reducesTo_S16x1024x1024_S16x1024_d2.drop i 1).val = (i 1).val := rfl
  constructor
  · intro h
    rw [h] at h0 h1
    refine ⟨i 2, ?_⟩
    funext a
    match a with
    | ⟨0, _⟩ => exact Fin.ext h0.symm
    | ⟨1, _⟩ => exact Fin.ext h1.symm
    | ⟨2, _⟩ => rfl
  · rintro ⟨k, rfl⟩
    funext a
    match a with
    | ⟨0, _⟩ => exact Fin.ext h0
    | ⟨1, _⟩ => exact Fin.ext h1

/-- The pairs that a reduction of (value, index) pairs combines at `j` are the ones at the entries of `j`'s group. -/
theorem mem_fiber {α β : Type} {s t : Shape} {axes : List (Fin s.rank)} (x : s.Idx → α) (y : s.Idx → β) (h : s.ReducesTo axes t)
    (j : t.Idx) (q : α × β) : q ∈ Host.argReduceFiber x y h j ↔ ∃ i, h.drop i = j ∧ q = (x i, y i) := by
  unfold Host.argReduceFiber
  simp only [List.mem_map, List.mem_filter, List.mem_finRange, true_and, decide_eq_true_eq]
  constructor
  · rintro ⟨a, ha, rfl⟩
    exact ⟨s.rowMajor.symm a, ha, rfl⟩
  · rintro ⟨i, hi, rfl⟩
    exact ⟨s.rowMajor i, by rwa [Equiv.symm_apply_apply], by rw [Equiv.symm_apply_apply]⟩

/-- A reduction of (value, index) pairs by the reference's comparison, where the group of `j` holds exactly the pairs of `f`, each with
    its own number: the number of the best value. -/
theorem argIndex_apply {s t u : Shape} {axes : List (Fin s.rank)}
    (op : EReal × BitVec 32 → EReal × BitVec 32 → EReal × BitVec 32)
    (hop : ∀ p q, (op p q = p ∨ op p q = q) ∧ Beats (op p q) p ∧ Beats (op p q) q)
    (x : FVec Ideal s .f32) (y : IVec s 32) (ix : FVec Ideal u .f32) (iy : IVec u 32) (h : s.ReducesTo axes t) (hu : 0 < u.numel)
    (j : t.Idx) (hx : ix (Shape.Idx.first hu) = (⊥ : EReal)) (hy : iy (Shape.Idx.first hu) = 0#32) (f : Fin 1024 → EReal)
    (hL : ∀ q : EReal × BitVec 32, (∃ i, h.drop i = j ∧ q = (x i, y i)) ↔ ∃ k : Fin 1024, q = (f k, BitVec.ofNat 32 k.val)) :
    argIndex op x y ix iy h hu j = BitVec.ofNat 32 (best f).val := by
  unfold argIndex
  rw [Ideal.argReduce_eq_reduce2, Host.reduce2_eq_foldl_fiber, hx, hy]
  exact argmax_foldl op hop f _ fun q => (mem_fiber x y h j q).trans (hL q)

/-- The numbers along the last axis, at an entry. -/
theorem iota_apply (b : Fin 16) (n k : Fin 1024) : iotaInDim S16x1024x1024 32 2 (ix3 b n k) = BitVec.ofNat 32 k.val := by
  pointwise

/-- The pairs of a pixel's group: its similarities, each with its row number. -/
theorem group_eq (s : FVec Ideal S16x1024x1024 .f32) (b : Fin 16) (n : Fin 1024) (q : EReal × BitVec 32) :
    (∃ i, reducesTo_S16x1024x1024_S16x1024_d2.drop i = ix2 b n ∧ q = (s i, iotaInDim S16x1024x1024 32 2 i))
      ↔ ∃ k : Fin 1024, q = (s (ix3 b n k), BitVec.ofNat 32 k.val) := by
  simp only [drop_eq_iff]
  constructor
  · rintro ⟨_, ⟨k, rfl⟩, rfl⟩
    exact ⟨k, by rw [iota_apply]⟩
  · rintro ⟨k, rfl⟩
    exact ⟨_, ⟨k, rfl⟩, by rw [iota_apply]⟩

/-- The reference's row number: the best row. -/
theorem refIndex_apply (s : FVec Ideal S16x1024x1024 .f32) (b : Fin 16) (n : Fin 1024) :
    refIndex s (ix2 b n) = BitVec.ofNat 32 (best fun k => s (ix3 b n k)).val :=
  argIndex_apply (reducer_argmax_f32_i32 (F := Ideal)) reducer_spec s (iotaInDim S16x1024x1024 32 2) (constant S_ .f32 0xFF800000#32)
    (constantI S_ 32 0#32) reducesTo_S16x1024x1024_S16x1024_d2 h_S_ (ix2 b n) ofBits_negInf rfl (fun k => s (ix3 b n k)) (group_eq s b n)

end Cert.Match

end
-- ==== Proof.Ref.lean ====
/-
  The reference's two results over extended reals: the entries and the numbers of the matching rows. The reference's operations are
  composed here as functions of arrays, stage by stage, and each stage is read at an entry.
-/
module

public import proofs.«01_k».proof.Proof.Gen.ReferenceIdeal
public import proofs.«01_k».proof.Proof.Spec
public import proofs.«01_k».proof.Proof.RefIndex

@[expose] public section

noncomputable section

namespace Cert.Match

open Idealize.ShloMosaic Idealize.SL.Sem
open Cert.ReferenceIdeal Cert.ReferenceIdeal.Gen

/-- The images divided, along the channels, by the larger of the channels' Euclidean length and the small constant. -/
def refImages (x : FVec Ideal S16x256x1024 .f32) : FVec Ideal S16x256x1024 .f32 :=
  Host.divf x (broadcastInDim S16x256x1024 ![0, 1, 2] bcast_S16x1x1024_S16x256x1024_0_1_2
    (maximumf
      (Host.sqrt (broadcastInDim S16x1x1024 ![0, 2] bcast_S16x1024_S16x1x1024_0_2
        (Host.reduceAdd (mulf x x) (constant S_ .f32 0x00000000#32) reducesTo_S16x256x1024_S16x1024_d1 h_S_)))
      (broadcastInDim S16x1x1024 ![] bcast_S_S16x1x1024 (constant S_ .f32 0x2B8CBCCC#32))))

/-- The bank divided likewise, along each row. -/
def refBank (p : FVec Ideal S1024x256 .f32) : FVec Ideal S1024x256 .f32 :=
  Host.divf p (broadcastInDim S1024x256 ![0, 1] bcast_S1024x1_S1024x256_0_1
    (maximumf
      (Host.sqrt (broadcastInDim S1024x1 ![0] bcast_S1024_S1024x1_0
        (Host.reduceAdd (mulf p p) (constant S_ .f32 0x00000000#32) reducesTo_S1024x256_S1024_d1 h_S_)))
      (broadcastInDim S1024x1 ![] bcast_S_S1024x1 (constant S_ .f32 0x2B8CBCCC#32))))

/-- All similarities: image, pixel, bank row. -/
def refSims (x : FVec Ideal S16x256x32x32 .f32) (p : FVec Ideal S1024x256 .f32) : FVec Ideal S16x1024x1024 .f32 :=
  Host.dotGeneral dot_S16x256x1024_S1024x256_S16x1024x1024_1_1_02_0_n_n none
    (refImages (shapeCast S16x256x1024 x shapeCasts_S16x256x32x32_S16x256x1024)) (refBank p)

/-- The row numbers as start positions: a negative one counts from the end. -/
def refStart (ix : IVec S16384 32) : IVec S16384x1 32 :=
  broadcastInDim S16384x1 ![0] bcast_S16384_S16384x1_0
    (select (cmpi .slt ix (broadcastInDim S16384 ![] bcast_S_S16384 (constantI S_ 32 0#32)))
      (addi ix (broadcastInDim S16384 ![] bcast_S_S16384 (constantI S_ 32 1024#32))) ix)

/-- The bank's rows at the start positions, a row out of range filled. -/
def refTake (p : FVec Ideal S1024x256 .f32) (ix : IVec S16384 32) : FVec Ideal S16384x256 .f32 :=
  select
    (broadcastInDim S16384x256 ![0] bcast_S16384_S16384x256_0
      (Host.reduce IntOp.andi
        (andi (cmpi .sge (refStart ix) (broadcastInDim S16384x1 ![] bcast_S_S16384x1 (constantI S_ 32 0#32)))
          (cmpi .sle (refStart ix) (broadcastInDim S16384x1 ![0, 1] bcast_S1x1_S16384x1_0_1
            (broadcastInDim S1x1 ![1] bcast_S1_S1x1_1 (constantI S1 32 1023#32)))))
        (constantI S_ 1 1#1) reducesTo_S16384x1_S16384_d1 h_S_))
    (Host.gather gather_S1024x256_S16384x1_S16384x256_1_0_n_n_0_1_1256 p (refStart ix))
    (broadcastInDim S16384x256 ![] bcast_S_S16384x256 (constant S_ .f32 0x7FC00000#32))

/-- The taken rows, laid out as images. -/
def refOut (p : FVec Ideal S1024x256 .f32) (idx : IVec S16x1024 32) : FVec Ideal S16x256x32x32 .f32 :=
  transpose S16x256x32x32 [0, 3, 1, 2]
    (shapeCast S16x32x32x256 (shapeCast S16x256x32x32 (refTake p (shapeCast S16384 idx shapeCasts_S16x1024_S16384))
      shapeCasts_S16384x256_S16x256x32x32) shapeCasts_S16x256x32x32_S16x32x32x256)
    transposes_S16x32x32x256_S16x256x32x32_0_3_1_2

/-- A similarity: that of the bank's row and the pixel's channel vector. -/
theorem refSims_apply (x : FVec Ideal S16x256x32x32 .f32) (p : FVec Ideal S1024x256 .f32) (b : Fin 16) (n k : Fin 1024) :
    refSims x p (ix3 b n k) = sim (fun c => p (ix2 k c)) fun c => x (ix4 b c (rowOf n) (colOf n)) := by
  rw [← sim_comm]
  pointwise [refSims, refImages, refBank]
  rfl

/-- A start position, where the row number is in range: the row number. -/
theorem refStart_apply (ix : IVec S16384 32) (r : Fin 16384) (k : Fin 1024) (h : ix (ix1 r) = BitVec.ofNat 32 k.val) :
    refStart ix (ix2 r 0) = BitVec.ofNat 32 k.val := by
  pointwise [refStart]
  rw [h]
  have : ¬ (BitVec.ofNat 32 k.val).toInt < 0 := by
    rw [toInt_ofNat]; omega
  simp [Scalar.select, WordCmp.cmpi_slt_eq, WordCmp.ofBool_eq_one_iff', this]

/-- A row gathered from the bank, where its start position is in range: the bank's row there. -/
theorem gather_row (p : FVec Ideal S1024x256 .f32) (st : IVec S16384x1 32) (r : Fin 16384) (c : Fin 256) (k : Fin 1024)
    (h : st (ix2 r 0) = BitVec.ofNat 32 k.val) :
    Host.gather gather_S1024x256_S16384x1_S16384x256_1_0_n_n_0_1_1256 p st (ix2 r c) = p (ix2 k c) := by
  unfold Host.gather
  refine congrArg p (funext fun a => Fin.ext ?_)
  show GatherDims.start _ (ix2 r c) st a + GatherDims.batchCoord _ (ix2 r c) a + GatherDims.offCoord _ (ix2 r c) a = _
  rw [GatherDims.batchCoord_eq_zero _ _ _ List.not_mem_nil, Nat.add_zero]
  obtain rfl | rfl : a = (0 : Fin 2) ∨ a = (1 : Fin 2) := by
    match a with
    | ⟨0, _⟩ => exact Or.inl rfl
    | ⟨1, _⟩ => exact Or.inr rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S1024x256_S16384x1_S16384x256_1_0_n_n_0_1_1256.startIndexMap from List.mem_singleton.mpr rfl)]
    have e : GatherDims.siIdx gather_S1024x256_S16384x1_S16384x256_1_0_n_n_0_1_1256 (ix2 r c)
        ⟨List.idxOf (0 : Fin 2) [0], List.idxOf_lt_length_iff.2 (List.mem_singleton.mpr rfl)⟩ = ix2 r 0 := by
      funext b
      match b with
      | ⟨0, _⟩ => rfl
      | ⟨1, _⟩ => rfl
    refine (congrArg (fun i => min (st i).toInt.toNat 1023) e).trans ?_
    show min (st (ix2 r 0)).toInt.toNat 1023 = k.val
    rw [h, toInt_ofNat]
    have := k.isLt
    omega
  · unfold GatherDims.start
    rw [dif_neg (show (1 : Fin 2) ∉ gather_S1024x256_S16384x1_S16384x256_1_0_n_n_0_1_1256.startIndexMap by decide), Nat.zero_add]
    rfl

/-- A taken row, where the row number is in range: the bank's row. -/
theorem refTake_apply (p : FVec Ideal S1024x256 .f32) (ix : IVec S16384 32) (r : Fin 16384) (c : Fin 256) (k : Fin 1024)
    (h : ix (ix1 r) = BitVec.ofNat 32 k.val) : refTake p ix (ix2 r c) = p (ix2 k c) := by
  have hs := refStart_apply ix r k h
  have hk := k.isLt
  have lo : (0 : Int) ≤ (BitVec.ofNat 32 k.val).toInt := by rw [toInt_ofNat]; omega
  have hi : (BitVec.ofNat 32 k.val).toInt ≤ 1023 := by rw [toInt_ofNat]; omega
  pointwise [refTake]
  rw [gather_row p _ r c k hs]
  have m : ∀ x : Fin 1, IntOp.andi (IntOp.cmpi .sge (refStart ix (ix2 r x)) 0#32) (IntOp.cmpi .sle (refStart ix (ix2 r x)) 1023#32)
      = 1#1 := by
    intro x
    rw [Subsingleton.elim x 0, hs]
    simp [WordCmp.cmpi_sge_eq, WordCmp.cmpi_sle_eq, lo, hi]
    rfl
  simp only [m]
  rfl

/-- The reference's first result at an entry, where the pixel's row number is in range: the bank's entry there. -/
theorem refOut_apply (p : FVec Ideal S1024x256 .f32) (idx : IVec S16x1024 32) (b : Fin 16) (c : Fin 256) (h w : Fin 32) (k : Fin 1024)
    (hk : idx (ix2 b (pixel h w)) = BitVec.ofNat 32 k.val) : refOut p idx (ix4 b c h w) = p (ix2 k c) := by
  have hr : (shapeCast S16384 idx shapeCasts_S16x1024_S16384) (ix1 ⟨b.val * 1024 + h.val * 32 + w.val, by
      have := b.isLt; have := h.isLt; have := w.isLt; omega⟩) = BitVec.ofNat 32 k.val := by
    rw [← hk]
    pointwise
    refine congrArg (fun n => idx (ix2 b n)) (Fin.ext ?_)
    have := h.isLt
    have := w.isLt
    show (b.val * 1024 + h.val * 32 + w.val) % 1024 = h.val * 32 + w.val
    omega
  have e : refOut p idx (ix4 b c h w) = refTake p (shapeCast S16384 idx shapeCasts_S16x1024_S16384)
      (ix2 ⟨b.val * 1024 + h.val * 32 + w.val, by have := b.isLt; have := h.isLt; have := w.isLt; omega⟩ c) := by
    pointwise [refOut]
  rw [e, refTake_apply p _ _ c k hr]

/-- The reference's second result: the numbers of the matching rows. -/
theorem ref_indices (x : FVec Ideal S16x256x32x32 .f32) (p : FVec Ideal S1024x256 .f32) :
    refIndex (refSims x p) = matchIndex x p := by
  funext i
  obtain ⟨b, n, rfl⟩ : ∃ (b : Fin 16) (n : Fin 1024), i = ix2 b n := ⟨i 0, i 1, funext fun a => by
    match a with
    | ⟨0, _⟩ => rfl
    | ⟨1, _⟩ => rfl⟩
  rw [refIndex_apply]
  simp only [refSims_apply]
  rfl

/-- The reference's first result: the entries of the matching rows. -/
theorem ref_values (x : FVec Ideal S16x256x32x32 .f32) (p : FVec Ideal S1024x256 .f32) :
    refOut p (refIndex (refSims x p)) = matchRow x p := by
  funext i
  obtain ⟨b, c, h, w, rfl⟩ : ∃ (b : Fin 16) (c : Fin 256) (h w : Fin 32), i = ix4 b c h w := ⟨i 0, i 1, i 2, i 3, funext fun a => by
    match a with
    | ⟨0, _⟩ => rfl
    | ⟨1, _⟩ => rfl
    | ⟨2, _⟩ => rfl
    | ⟨3, _⟩ => rfl⟩
  rw [ref_indices]
  exact refOut_apply p _ b c h w (pick x p b (pixel h w)) rfl

/-- The taken rows as the reference's run composes them. -/
theorem take_eq (p : FVec Ideal S1024x256 .f32) (ix : IVec S16384 32) :
    select
      (broadcastInDim S16384x256 ![0] bcast_S16384_S16384x256_0
        (Host.reduce IntOp.andi
          (andi
            (cmpi .sge
              (broadcastInDim S16384x1 ![0] bcast_S16384_S16384x1_0
                (select (cmpi .slt ix (broadcastInDim S16384 ![] bcast_S_S16384 (constantI S_ 32 0#32)))
                  (addi ix (broadcastInDim S16384 ![] bcast_S_S16384 (constantI S_ 32 1024#32))) ix))
              (broadcastInDim S16384x1 ![] bcast_S_S16384x1 (constantI S_ 32 0#32)))
            (cmpi .sle
              (broadcastInDim S16384x1 ![0] bcast_S16384_S16384x1_0
                (select (cmpi .slt ix (broadcastInDim S16384 ![] bcast_S_S16384 (constantI S_ 32 0#32)))
                  (addi ix (broadcastInDim S16384 ![] bcast_S_S16384 (constantI S_ 32 1024#32))) ix))
              (broadcastInDim S16384x1 ![0, 1] bcast_S1x1_S16384x1_0_1
                (broadcastInDim S1x1 ![1] bcast_S1_S1x1_1 (constantI S1 32 1023#32)))))
          (constantI S_ 1 1#1) reducesTo_S16384x1_S16384_d1 h_S_))
      (Host.gather gather_S1024x256_S16384x1_S16384x256_1_0_n_n_0_1_1256 p
        (broadcastInDim S16384x1 ![0] bcast_S16384_S16384x1_0
          (select (cmpi .slt ix (broadcastInDim S16384 ![] bcast_S_S16384 (constantI S_ 32 0#32)))
            (addi ix (broadcastInDim S16384 ![] bcast_S_S16384 (constantI S_ 32 1024#32))) ix)))
      (broadcastInDim S16384x256 ![] bcast_S_S16384x256 (constant S_ .f32 0x7FC00000#32))
    = refTake p ix := by
  unfold refTake refStart
  with_reducible rfl

/-- The taken rows laid out as images, whatever array they are. -/
theorem out_eq {T : FVec Ideal S16384x256 .f32} (p : FVec Ideal S1024x256 .f32) (idx : IVec S16x1024 32)
    (h : T = refTake p (shapeCast S16384 idx shapeCasts_S16x1024_S16384)) :
    transpose S16x256x32x32 [0, 3, 1, 2]
      (shapeCast S16x32x32x256 (shapeCast S16x256x32x32 T shapeCasts_S16384x256_S16x256x32x32) shapeCasts_S16x256x32x32_S16x32x32x256)
      transposes_S16x32x32x256_S16x256x32x32_0_3_1_2 = refOut p idx := by
  rw [h]
  unfold refOut
  with_reducible rfl

end Cert.Match

end
-- ==== Proof.RefRun.lean ====
/-
  The reference's run over extended reals: it ends with the matching rows and their numbers.
-/
module

public import proofs.«01_k».proof.Proof.Ref
public import Idealize.ShloMosaic.Lib.Claim
public import Idealize.ShloMosaic.Adequacy
public import Idealize.ShloMosaic.Init

@[expose] public section

noncomputable section

namespace Cert.Match

open Idealize.ShloMosaic Idealize.SL.Sem
open Cert.ReferenceIdeal Cert.ReferenceIdeal.Gen

variable (m : (ℓ : Loc nD τ sig) → Buf (Elt Ideal) ℓ) (g : Dev nD → PrngReg)

/-- The reference's run ends, with its two results and its arguments as stated. -/
theorem ref_run : θ_run (defs (F := Ideal)) (onTc (τ := τ) (main (F := Ideal))) ⟨m, fun _ => 0, g⟩ (fun r => ∀ c : Dev nD,
    r.2.mem ((c.tc : Thread nD τ).loc main_v17) = matchRow (m ((c.tc : Thread nD τ).loc main_arg0)) (m ((c.tc : Thread nD τ).loc main_arg1))
    ∧ r.2.mem ((c.tc : Thread nD τ).loc main_v12) = matchIndex (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  hlo_run
  · simp only [StableHlo.TRef.ofBuf_toBuf]
    rw [argIndex_eq]
    generalize hI : argIndex _ _ _ _ _ _ _ = I
    have e : I = refIndex (refSims (m ((c.tc : Thread nD τ).loc main_arg0)) (m ((c.tc : Thread nD τ).loc main_arg1))) := by
      refine hI.symm.trans (argIndex_congr _ _ _ _ _ _ ?_)
      clear hI
      simp -implicitDefEqProofs only [StableHlo.TRef.toBuf, StableHlo.TRef.ofBuf, cast_cast, cast_eq]
      rfl
    rw [← ref_values, ← e]
    clear hI e
    -- past the index: the taken rows, and the casts at the borders of the reference's functions
    refine out_eq _ _ ?_
    refine (cast_eq rfl _).trans ?_
    refine (take_eq _ _).trans ?_
    refine congrArg₂ refTake (cast_eq rfl _) ((cast_eq rfl _).trans ?_)
    exact congrArg (fun I => shapeCast S16384 I shapeCasts_S16x1024_S16384) (cast_eq rfl I)
  · simp -implicitDefEqProofs only [StableHlo.TRef.toBuf, StableHlo.TRef.ofBuf, cast_cast, cast_eq]
    rw [argIndex_eq]
    refine Eq.trans ?_ (ref_indices _ _)
    exact argIndex_congr _ _ _ _ _ _ rfl

end Cert.Match

end
-- ==== Proof.lean ====
/-
  The five claims: each program's run ends with its semaphores at zero and its arguments unchanged, the kernel over extended reals is the
  kernel as printed with its floats read as extended reals, and over extended reals the kernel's two results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Kernel
public import proofs.«01_k».proof.Proof.RefRun
public import Idealize.ShloMosaic.Adequacy
public import Idealize.ShloMosaic.Init
public import Idealize.ShloMosaic.Lib.Claim

@[expose] public section

noncomputable section

namespace Cert.Proof

open Idealize.ShloMosaic Idealize.SL.Sem Cert.Match

/-- The reference's run ends, with its arguments unchanged and no semaphore to account for. -/
theorem frame_reference : Cert.quiescent_ReferenceIdeal (hReferenceIdeal := Cert.ReferenceIdeal.Gen.facts) := by
  intro m g _
  exact (θ_run Cert.ReferenceIdeal.defs _ _).mono
    (fun r h => ⟨fun c => (h c).2.2, sem_eq_zero_of_no_sems (by decide) r.2⟩) (ref_run m g)

/-- Over extended reals the kernel and the reference, from the same arguments, both end with the matching rows and their numbers. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => matchRow (imagesArg m c) (bankArg m c), fun c => matchIndex (imagesArg m c) (bankArg m c), ?_, ?_⟩
  · run_from Cert.KernelIdeal.Gen.run_main m g
    · exact (result_values m c).trans (kernel_values m c)
    · exact (result_indices m c).trans (kernel_indices m c)
    · exact Cert.KernelIdeal.Gen.W_main_arg0 m _ c
  · refine (θ_run Cert.ReferenceIdeal.defs _ _).mono (fun r h c => ⟨(h c).1.trans ?_, (h c).2.1.trans ?_, (h c).2.2⟩) (ref_run m' g')
    · rw [(hagree c).1, (hagree c).2]
    · rw [(hagree c).1, (hagree c).2]

/-- All five claims together. -/
theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, frame_reference, trivial, algebraic⟩

end Cert.Proof

end
